-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x3 : Shape := ⟨3, ![2, 4096, 3]⟩
abbrev S2x4096x64 : Shape := ⟨3, ![2, 4096, 64]⟩
abbrev S2x4096 : Shape := ⟨2, ![2, 4096]⟩
abbrev S67x64 : Shape := ⟨2, ![67, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x2048x128 : Shape := ⟨3, ![2, 2048, 128]⟩
abbrev S2x4096x1 : Shape := ⟨3, ![2, 4096, 1]⟩
abbrev S2x4096x4 : Shape := ⟨3, ![2, 4096, 4]⟩
abbrev S2x2048x8 : Shape := ⟨3, ![2, 2048, 8]⟩
abbrev S2x8x2048 : Shape := ⟨3, ![2, 8, 2048]⟩
abbrev S_ : Shape := ⟨0, ![]⟩
abbrev S72x128 : Shape := ⟨2, ![72, 128]⟩
abbrev S64x128 : Shape := ⟨2, ![64, 128]⟩
abbrev S1x64 : Shape := ⟨2, ![1, 64]⟩
abbrev S8x128 : Shape := ⟨2, ![8, 128]⟩
abbrev S1x32 : Shape := ⟨2, ![1, 32]⟩
abbrev S1x1 : Shape := ⟨2, ![1, 1]⟩
abbrev S16x128 : Shape := ⟨2, ![16, 128]⟩
abbrev S176x128 : Shape := ⟨2, ![176, 128]⟩
abbrev S2x2x2048 : Shape := ⟨3, ![2, 2, 2048]⟩
abbrev S1x2048x128 : Shape := ⟨3, ![1, 2048, 128]⟩
abbrev S1x8x2048 : Shape := ⟨3, ![1, 8, 2048]⟩
abbrev S1x2x2048 : Shape := ⟨3, ![1, 2, 2048]⟩
abbrev S2048x128 : Shape := ⟨2, ![2048, 128]⟩
abbrev S128x2048 : Shape := ⟨2, ![128, 2048]⟩
abbrev S8x2048 : Shape := ⟨2, ![8, 2048]⟩
abbrev S64x1 : Shape := ⟨2, ![64, 1]⟩
abbrev S64x2048 : Shape := ⟨2, ![64, 2048]⟩
abbrev S3x2048 : Shape := ⟨2, ![3, 2048]⟩
abbrev S64x64 : Shape := ⟨2, ![64, 64]⟩
abbrev S3x64 : Shape := ⟨2, ![3, 64]⟩
abbrev S32x2048 : Shape := ⟨2, ![32, 2048]⟩
abbrev S1x2048 : Shape := ⟨2, ![1, 2048]⟩
abbrev S2x2048 : Shape := ⟨2, ![2, 2048]⟩
abbrev S1x1x2048 : Shape := ⟨3, ![1, 1, 2048]⟩
abbrev S1x1x1 : Shape := ⟨3, ![1, 1, 1]⟩
abbrev S2x2048x2 : Shape := ⟨3, ![2, 2048, 2]⟩

abbrev nBuf : Space → Nat
  | .hbm => 40
  | .vmem => 7
  | .smem => 0
  | _ => 0

abbrev bufTy : (tb : Table) → Fin (tcTables nBuf tb) → BufTy
  | .hbm, ⟨0, _⟩ => ⟨S2x4096x3, .f32⟩
  | .hbm, ⟨1, _⟩ => ⟨S2x4096x64, .f32⟩
  | .hbm, ⟨2, _⟩ => ⟨S2x4096, .f32⟩
  | .hbm, ⟨3, _⟩ => ⟨S67x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2x2048x128, .f32⟩
  | .hbm, ⟨10, _⟩ => ⟨S2x4096x1, .f32⟩
  | .hbm, ⟨11, _⟩ => ⟨S2x4096x4, .f32⟩
  | .hbm, ⟨12, _⟩ => ⟨S2x2048x8, .f32⟩
  | .hbm, ⟨13, _⟩ => ⟨S2x8x2048, .f32⟩
  | .hbm, ⟨14, _⟩ => ⟨S_, .i32⟩
  | .hbm, ⟨15, _⟩ => ⟨S_, .f32⟩
  | .hbm, ⟨16, _⟩ => ⟨S72x128, .f32⟩
  | .hbm, ⟨17, _⟩ => ⟨S_, .i32⟩
  | .hbm, ⟨18, _⟩ => ⟨S_, .f32⟩
  | .hbm, ⟨19, _⟩ => ⟨S64x128, .f32⟩
  | .hbm, ⟨20, _⟩ => ⟨S1x64, .f32⟩
  | .hbm, ⟨21, _⟩ => ⟨S_, .i32⟩
  | .hbm, ⟨22, _⟩ => ⟨S_, .f32⟩
  | .hbm, ⟨23, _⟩ => ⟨S8x128, .f32⟩
  | .hbm, ⟨24, _⟩ => ⟨S1x32, .f32⟩
  | .hbm, ⟨25, _⟩ => ⟨S_, .i32⟩
  | .hbm, ⟨26, _⟩ => ⟨S_, .f32⟩
  | .hbm, ⟨27, _⟩ => ⟨S8x128, .f32⟩
  | .hbm, ⟨28, _⟩ => ⟨S1x1, .f32⟩
  | .hbm, ⟨29, _⟩ => ⟨S_, .i32⟩
  | .hbm, ⟨30, _⟩ => ⟨S_, .f32⟩
  | .hbm, ⟨31, _⟩ => ⟨S8x128, .f32⟩
  | .hbm, ⟨32, _⟩ => ⟨S1x32, .f32⟩
  | .hbm, ⟨33, _⟩ => ⟨S_, .i32⟩
  | .hbm, ⟨34, _⟩ => ⟨S_, .f32⟩
  | .hbm, ⟨35, _⟩ => ⟨S16x128, .f32⟩
  | .hbm, ⟨36, _⟩ => ⟨S176x128, .f32⟩
  | .hbm, ⟨37, _⟩ => ⟨S2x2x2048, .f32⟩
  | .hbm, ⟨38, _⟩ => ⟨S2x2048x2, .f32⟩
  | .hbm, ⟨39, _⟩ => ⟨S2x4096, .f32⟩
  | .local _ .vmem, ⟨0, _⟩ => ⟨S1x2048x128, .f32⟩
  | .local _ .vmem, ⟨1, _⟩ => ⟨S1x2048x128, .f32⟩
  | .local _ .vmem, ⟨2, _⟩ => ⟨S1x8x2048, .f32⟩
  | .local _ .vmem, ⟨3, _⟩ => ⟨S1x8x2048, .f32⟩
  | .local _ .vmem, ⟨4, _⟩ => ⟨S176x128, .f32⟩
  | .local _ .vmem, ⟨5, _⟩ => ⟨S1x2x2048, .f32⟩
  | .local _ .vmem, ⟨6, _⟩ => ⟨S1x2x2048, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_call4_v0 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_call5_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x4096x3 : Shape := ⟨3, ![2, 4096, 3]⟩
abbrev S2x4096x64 : Shape := ⟨3, ![2, 4096, 64]⟩
abbrev S2x4096 : Shape := ⟨2, ![2, 4096]⟩
abbrev S67x64 : Shape := ⟨2, ![67, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S_ : Shape := ⟨0, ![]⟩
abbrev S2x4096x4096 : Shape := ⟨3, ![2, 4096, 4096]⟩
abbrev S2x4096x16 : Shape := ⟨3, ![2, 4096, 16]⟩
abbrev S2x4096x16x1 : Shape := ⟨4, ![2, 4096, 16, 1]⟩
abbrev S2x4096x16x64 : Shape := ⟨4, ![2, 4096, 16, 64]⟩
abbrev S2x4096x1x64 : Shape := ⟨4, ![2, 4096, 1, 64]⟩
abbrev S2x4096x1 : Shape := ⟨3, ![2, 4096, 1]⟩
abbrev S4096 : Shape := ⟨1, ![4096]⟩
abbrev S2x4096x4 : Shape := ⟨3, ![2, 4096, 4]⟩
abbrev S2x4096x68 : Shape := ⟨3, ![2, 4096, 68]⟩
abbrev S2x4096x67 : Shape := ⟨3, ![2, 4096, 67]⟩
abbrev S1x64 : Shape := ⟨2, ![1, 64]⟩
abbrev S1x1x64 : Shape := ⟨3, ![1, 1, 64]⟩
abbrev S2x4096x32 : Shape := ⟨3, ![2, 4096, 32]⟩
abbrev S1x32 : Shape := ⟨2, ![1, 32]⟩
abbrev S1x1x32 : Shape := ⟨3, ![1, 1, 32]⟩
abbrev S1x1 : Shape := ⟨2, ![1, 1]⟩
abbrev S1x1x1 : Shape := ⟨3, ![1, 1, 1]⟩
abbrev S2 : Shape := ⟨1, ![2]⟩

abbrev nBuf : Space → Nat
  | .hbm => 108
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x64, .f32⟩
  | .hbm, ⟨2, _⟩ => ⟨S2x4096, .f32⟩
  | .hbm, ⟨3, _⟩ => ⟨S67x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2x4096x1x3, .f32⟩
  | .hbm, ⟨10, _⟩ => ⟨S2x1x4096x3, .f32⟩
  | .hbm, ⟨11, _⟩ => ⟨S2x4096x4096x3, .f32⟩
  | .hbm, ⟨12, _⟩ => ⟨S2x4096x4096x3, .f32⟩
  | .hbm, ⟨13, _⟩ => ⟨S2x4096x4096x3, .f32⟩
  | .hbm, ⟨14, _⟩ => ⟨S2x4096x4096x3, .f32⟩
  | .hbm, ⟨15, _⟩ => ⟨S_, .f32⟩
  | .hbm, ⟨16, _⟩ => ⟨S2x4096x4096, .f32⟩
  | .hbm, ⟨17, _⟩ => ⟨S2x4096x4096, .f32⟩
  | .hbm, ⟨18, _⟩ => ⟨S2x4096x16, .f32⟩
  | .hbm, ⟨19, _⟩ => ⟨S2x4096x16, .i32⟩
  | .hbm, ⟨20, _⟩ => ⟨S_, .i32⟩
  | .hbm, ⟨21, _⟩ => ⟨S2x4096x16, .i32⟩
  | .hbm, ⟨22, _⟩ => ⟨S2x4096x16, .i1⟩
  | .hbm, ⟨23, _⟩ => ⟨S_, .i32⟩
  | .hbm, ⟨24, _⟩ => ⟨S2x4096x16, .i32⟩
  | .hbm, ⟨25, _⟩ => ⟨S2x4096x16, .i32⟩
  | .hbm, ⟨26, _⟩ => ⟨S2x4096x16, .i32⟩
  | .hbm, ⟨27, _⟩ => ⟨S2x4096x16x1, .i32⟩
  | .hbm, ⟨28, _⟩ => ⟨S2x4096x16x64, .f32⟩
  | .hbm, ⟨29, _⟩ => ⟨S2x4096x1x64, .f32⟩
  | .hbm, ⟨30, _⟩ => ⟨S2x4096x16x64, .f32⟩
  | .hbm, ⟨31, _⟩ => ⟨S2x4096x16x64, .f32⟩
  | .hbm, ⟨32, _⟩ => ⟨S2x4096x16x64, .f32⟩
  | .hbm, ⟨33, _⟩ => ⟨S_, .f32⟩
  | .hbm, ⟨34, _⟩ => ⟨S2x4096x16, .f32⟩
  | .hbm, ⟨35, _⟩ => ⟨S_, .f32⟩
  | .hbm, ⟨36, _⟩ => ⟨S2x4096x16, .f32⟩
  | .hbm, ⟨37, _⟩ => ⟨S2x4096x16, .f32⟩
  | .hbm, ⟨38, _⟩ => ⟨S2x4096x16, .f32⟩
  | .hbm, ⟨39, _⟩ => ⟨S_, .i32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x16, .f32⟩
  | .hbm, ⟨47, _⟩ => ⟨S2x4096x16, .f32⟩
  | .hbm, ⟨48, _⟩ => ⟨S2x4096x16, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x4096, .f32⟩
  | .hbm, ⟨54, _⟩ => ⟨S2x4096, .f32⟩
  | .hbm, ⟨55, _⟩ => ⟨S2x4096, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S2x4096, .f32⟩
  | .hbm, ⟨62, _⟩ => ⟨S2x4096, .f32⟩
  | .hbm, ⟨63, _⟩ => ⟨S2x4096x1, .f32⟩
  | .hbm, ⟨64, _⟩ => ⟨S2x4096x4, .f32⟩
  | .hbm, ⟨65, _⟩ => ⟨S2x4096x68, .f32⟩
  | .hbm, ⟨66, _⟩ => ⟨S2x4096x67, .f32⟩
  | .hbm, ⟨67, _⟩ => ⟨S2x4096x64, .f32⟩
  | .hbm, ⟨68, _⟩ => ⟨S1x64, .f32⟩
  | .hbm, ⟨69, _⟩ => ⟨S1x1x64, .f32⟩
  | .hbm, ⟨70, _⟩ => ⟨S2x4096x64, .f32⟩
  | .hbm, ⟨71, _⟩ => ⟨S2x4096x64, .f32⟩
  | .hbm, ⟨72, _⟩ => ⟨S_, .f32⟩
  | .hbm, ⟨73, _⟩ => ⟨S2x4096x64, .f32⟩
  | .hbm, ⟨74, _⟩ => ⟨S2x4096x64, .f32⟩
  | .hbm, ⟨75, _⟩ => ⟨S2x4096x32, .f32⟩
  | .hbm, ⟨76, _⟩ => ⟨S1x32, .f32⟩
  | .hbm, ⟨77, _⟩ => ⟨S1x1x32, .f32⟩
  | .hbm, ⟨78, _⟩ => ⟨S2x4096x32, .f32⟩
  | .hbm, ⟨79, _⟩ => ⟨S2x4096x32, .f32⟩
  | .hbm, ⟨80, _⟩ => ⟨S_, .f32⟩
  | .hbm, ⟨81, _⟩ => ⟨S2x4096x32, .f32⟩
  | .hbm, ⟨82, _⟩ => ⟨S2x4096x32, .f32⟩
  | .hbm, ⟨83, _⟩ => ⟨S2x4096x1, .f32⟩
  | .hbm, ⟨84, _⟩ => ⟨S1x1, .f32⟩
  | .hbm, ⟨85, _⟩ => ⟨S1x1x1, .f32⟩
  | .hbm, ⟨86, _⟩ => ⟨S2x4096x1, .f32⟩
  | .hbm, ⟨87, _⟩ => ⟨S2x4096x1, .f32⟩
  | .hbm, ⟨88, _⟩ => ⟨S2x4096x1, .f32⟩
  | .hbm, ⟨89, _⟩ => ⟨S2x4096x1, .f32⟩
  | .hbm, ⟨90, _⟩ => ⟨S_, .f32⟩
  | .hbm, ⟨91, _⟩ => ⟨S2x4096x1, .f32⟩
  | .hbm, ⟨92, _⟩ => ⟨S2x4096x1, .f32⟩
  | .hbm, ⟨93, _⟩ => ⟨S_, .f32⟩
  | .hbm, ⟨94, _⟩ => ⟨S2x4096x1, .f32⟩
  | .hbm, ⟨95, _⟩ => ⟨S2x4096x1, .f32⟩
  | .hbm, ⟨96, _⟩ => ⟨S2x4096, .f32⟩
  | .hbm, ⟨97, _⟩ => ⟨S2x4096, .f32⟩
  | .hbm, ⟨98, _⟩ => ⟨S_, .f32⟩
  | .hbm, ⟨99, _⟩ => ⟨S2, .f32⟩
  | .hbm, ⟨100, _⟩ => ⟨S_, .f32⟩
  | .hbm, ⟨101, _⟩ => ⟨S2, .f32⟩
  | .hbm, ⟨102, _⟩ => ⟨S2, .i1⟩
  | .hbm, ⟨103, _⟩ => ⟨S_, .f32⟩
  | .hbm, ⟨104, _⟩ => ⟨S4096, .f32⟩
  | .hbm, ⟨105, _⟩ => ⟨S2x4096, .f32⟩
  | .hbm, ⟨106, _⟩ => ⟨S2x4096, .i1⟩
  | .hbm, ⟨107, _⟩ => ⟨S2x4096, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_values : Ref sig .tc := ⟨.hbm, 18, rfl⟩
abbrev main_indices : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call1_cst : Ref sig .tc := ⟨.hbm, 72, rfl⟩
abbrev main_call1_v0 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call2_cst : Ref sig .tc := ⟨.hbm, 80, rfl⟩
abbrev main_call2_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_4 : Ref sig .tc := ⟨.hbm, 90, rfl⟩
abbrev main_v47 : Ref sig .tc := ⟨.hbm, 91, rfl⟩
abbrev main_v48 : Ref sig .tc := ⟨.hbm, 92, rfl⟩
abbrev main_cst_5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_6 : Ref sig .tc := ⟨.hbm, 98, rfl⟩
abbrev main_v53 : Ref sig .tc := ⟨.hbm, 99, rfl⟩
abbrev main_cst_7 : Ref sig .tc := ⟨.hbm, 100, rfl⟩
abbrev main_v54 : Ref sig .tc := ⟨.hbm, 101, rfl⟩
abbrev main_v55 : Ref sig .tc := ⟨.hbm, 102, rfl⟩
abbrev main_cst_8 : Ref sig .tc := ⟨.hbm, 103, rfl⟩
abbrev main_v56 : Ref sig .tc := ⟨.hbm, 104, rfl⟩
abbrev main_call3_v0 : Ref sig .tc := ⟨.hbm, 105, rfl⟩
abbrev main_call3_v1 : Ref sig .tc := ⟨.hbm, 106, rfl⟩
abbrev main_v57 : Ref sig .tc := ⟨.hbm, 107, rfl⟩

abbrev nD : Nat := 1
abbrev τ : Topo := Topo.v7x

variable {F : FTy → Type} [FloatOps F]
-- ==== Proof.Detect.Net.lean ====
/-
  The boundary network of one point, as plain sums over the extended reals. Both programs are shown to compute
  `score` at every batch and point: neither the tiling of the kernel nor the neighbour search of the reference
  occurs here.
-/
module

public import Idealize.ShloMosaic.Lib.Pointwise

@[expose] public section

noncomputable section

namespace Cert.Detect

open Idealize.ShloMosaic

/-- The nine argument arrays of either program, read as extended reals. -/
structure Args where
  /-- the points' coordinates -/
  pts : FVec Ideal ⟨3, ![2, 4096, 3]⟩ .f32
  /-- the points' features -/
  feats : FVec Ideal ⟨3, ![2, 4096, 64]⟩ .f32
  /-- the leaf mask -/
  mask : FVec Ideal ⟨2, ![2, 4096]⟩ .f32
  /-- first layer's weights: 64 rows for the features, three for the coordinates -/
  W1 : FVec Ideal ⟨2, ![67, 64]⟩ .f32
  /-- first layer's bias -/
  b1 : FVec Ideal ⟨1, ![64]⟩ .f32
  /-- second layer's weights -/
  W2 : FVec Ideal ⟨2, ![64, 32]⟩ .f32
  /-- second layer's bias -/
  b2 : FVec Ideal ⟨1, ![32]⟩ .f32
  /-- last layer's weights -/
  W3 : FVec Ideal ⟨2, ![32, 1]⟩ .f32
  /-- last layer's bias -/
  b3 : FVec Ideal ⟨1, ![1]⟩ .f32

variable (A : Args)

/-- Unit `j` of the first layer at point `n` of batch `b`: the features against the first 64 rows of the weights,
    the coordinates against the last three, the bias, and the positive part. -/
def layer1 (b : Fin 2) (n : Fin 4096) (j : Fin 64) : EReal :=
  max ((∑ k : Fin 64, (A.feats (ix3 b n k) : EReal) * A.W1 (ix2 ⟨k, by omega⟩ j))
    + (∑ k : Fin 3, (A.pts (ix3 b n k) : EReal) * A.W1 (ix2 ⟨64 + k, by omega⟩ j)) + A.b1 (ix1 j)) 0

/-- Unit `j` of the second layer. -/
def layer2 (b : Fin 2) (n : Fin 4096) (j : Fin 32) : EReal :=
  max ((∑ k : Fin 64, layer1 A b n k * (A.W2 (ix2 k j) : EReal)) + A.b2 (ix1 j)) 0

/-- The network's output before the sigmoid. -/
def logit (b : Fin 2) (n : Fin 4096) : EReal :=
  (∑ k : Fin 32, layer2 A b n k * (A.W3 (ix2 k 0) : EReal)) + A.b3 (ix1 0)

/-- The sum of a batch's mask. -/
def total (b : Fin 2) : EReal := ∑ n : Fin 4096, (A.mask (ix2 b n) : EReal)

/-- Whether a batch's mask sums to less than ten, as the one-bit word the comparison gives. -/
def few (b : Fin 2) : BitVec 1 :=
  FloatOps.cmpf (F := Ideal) (φ := .f32) .olt (total A b) (Ideal.ofBits .f32 0x41200000#32)

/-- The boundary score: the sigmoid of the logit times the mask, and zero throughout a batch with too few points. -/
def score (b : Fin 2) (n : Fin 4096) : EReal :=
  Scalar.select (few A b) (0 : EReal) (Ideal.div 1 (1 + Ideal.exp (-logit A b n)) * A.mask (ix2 b n))

end Cert.Detect

end
-- ==== Proof.Detect.RefValue.lean ====
/-
  What the reference returns, at an index: the boundary score of `Net`. The variance column that the reference
  appends to its points is cut away again before the first matrix product, so the neighbour search drops out.
-/
module

public import proofs.«01_k».proof.Proof.Detect.Net
public import proofs.«01_k».proof.Proof.Gen.ReferenceIdeal.Run
public import Idealize.ShloMosaic.Lib.Tactic.CleanTypes
public import Idealize.ShloMosaic.Lib.Tactic.IndexArith

@[expose] public section

set_option maxRecDepth 16384

noncomputable section

namespace Cert.ReferenceIdeal.Score

open Cert.ReferenceIdeal Cert.ReferenceIdeal.Gen
open Idealize.ShloMosaic Idealize.ShloMosaic.TcCoe Idealize.SL.Sem
open Cert.Detect

/-- The reference's nine arguments on a device. -/
def args (m : (ℓ : Loc nD τ sig) → Buf (Elt Ideal) ℓ) (c : Dev nD) : Args where
  pts := m ((c.tc : Thread nD τ).loc main_arg0)
  feats := m ((c.tc : Thread nD τ).loc main_arg1)
  mask := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)

/-- The reference's first 67 columns: features and coordinates beside a column `v` that is cut away. -/
def cols (A : Args) (v : FVec Ideal S2x4096x1 .f32) : FVec Ideal S2x4096x67 .f32 :=
  extractStridedSlice S2x4096x67 ![0, 0, 0] (concatenate S2x4096x68 2
    [⟨S2x4096x64, A.feats⟩, ⟨S2x4096x4, concatenate S2x4096x4 2 [⟨S2x4096x3, A.pts⟩, ⟨S2x4096x1, v⟩]
      concatenates_S2x4096x3_S2x4096x1_S2x4096x4_d2⟩] concatenates_S2x4096x64_S2x4096x4_S2x4096x68_d2)
    slices_S2x4096x68_S2x4096x67_0_0_0

/-- The first layer, as the reference writes it over its columns. -/
def lay1 (A : Args) (v : FVec Ideal S2x4096x1 .f32) : FVec Ideal S2x4096x64 .f32 :=
  maximumf (addf (Host.dotGeneral dot_S2x4096x67_S67x64_S2x4096x64_2_0_01_1_n_n none (cols A v) A.W1)
    (broadcastInDim S2x4096x64 ![0, 1, 2] bcast_S1x1x64_S2x4096x64_0_1_2
      (broadcastInDim S1x1x64 ![1, 2] bcast_S1x64_S1x1x64_1_2 (broadcastInDim S1x64 ![1] bcast_S64_S1x64_1 A.b1))))
    (broadcastInDim S2x4096x64 ![] bcast_S_S2x4096x64 (constant S_ .f32 0x00000000#32))

/-- The second layer over the first one's output. -/
def lay2 (A : Args) (h : FVec Ideal S2x4096x64 .f32) : FVec Ideal S2x4096x32 .f32 :=
  maximumf (addf (Host.dotGeneral dot_S2x4096x64_S64x32_S2x4096x32_2_0_01_1_n_n none h A.W2)
    (broadcastInDim S2x4096x32 ![0, 1, 2] bcast_S1x1x32_S2x4096x32_0_1_2
      (broadcastInDim S1x1x32 ![1, 2] bcast_S1x32_S1x1x32_1_2 (broadcastInDim S1x32 ![1] bcast_S32_S1x32_1 A.b2))))
    (broadcastInDim S2x4096x32 ![] bcast_S_S2x4096x32 (constant S_ .f32 0x00000000#32))

/-- The last layer over the second one's output. -/
def lay3 (A : Args) (h : FVec Ideal S2x4096x32 .f32) : FVec Ideal S2x4096x1 .f32 :=
  addf (Host.dotGeneral dot_S2x4096x32_S32x1_S2x4096x1_2_0_01_1_n_n none h A.W3)
    (broadcastInDim S2x4096x1 ![0, 1, 2] bcast_S1x1x1_S2x4096x1_0_1_2
      (broadcastInDim S1x1x1 ![1, 2] bcast_S1x1_S1x1x1_1_2 (broadcastInDim S1x1 ![1] bcast_S1_S1x1_1 A.b3)))

/-- The sigmoid, the mask and the choice of zero for a batch with too few points, over the logits `z`. -/
def outp (A : Args) (z : FVec Ideal S2x4096x1 .f32) : FVec Ideal S2x4096 .f32 :=
  select (broadcastInDim S2x4096 ![0] bcast_S2_S2x4096_0 (cmpf .olt
      (Host.reduceAdd A.mask (constant S_ .f32 0x00000000#32) reducesTo_S2x4096_S2_d1 h_S_)
      (broadcastInDim S2 ![] bcast_S_S2 (constant S_ .f32 0x41200000#32))))
    (broadcastInDim S2x4096 ![1] bcast_S4096_S2x4096_1
      (broadcastInDim S4096 ![] bcast_S_S4096 (constant S_ .f32 0x00000000#32)))
    (mulf (shapeCast S2x4096 (Host.divf (broadcastInDim S2x4096x1 ![] bcast_S_S2x4096x1 (constant S_ .f32 0x3F800000#32))
      (addf (broadcastInDim S2x4096x1 ![] bcast_S_S2x4096x1 (constant S_ .f32 0x3F800000#32))
        (Host.exp (Host.negf z)))) shapeCasts_S2x4096x1_S2x4096) A.mask)

/-- The reference's result is the layers one after another, for some variance column. -/
theorem res_eq (m : (ℓ : Loc nD τ sig) → Buf (Elt Ideal) ℓ) (c : Dev nD) :
    ∃ v, Value.res_out0 m c
      = outp (args m c) (lay3 (args m c) (lay2 (args m c) (lay1 (args m c) v))) := ⟨_, rfl⟩

variable (A : Args)

/-- A column of the first 64 is the feature's. -/
theorem cols_feat (v : FVec Ideal S2x4096x1 .f32) (b : Fin 2) (n : Fin 4096) (k : Fin 64) (h : k.1 < 67) :
    cols A v (ix3 b n ⟨k, h⟩) = A.feats (ix3 b n k) := by
  unfold cols
  pointwise

/-- A column of the next three is the coordinate's. -/
theorem cols_pt (v : FVec Ideal S2x4096x1 .f32) (b : Fin 2) (n : Fin 4096) (k : Fin 3) (h : 64 + k.1 < 67) :
    cols A v (ix3 b n ⟨64 + k, h⟩) = A.pts (ix3 b n k) := by
  unfold cols
  pointwise

/-- The first layer at an index. -/
theorem lay1_at (v : FVec Ideal S2x4096x1 .f32) (b : Fin 2) (n : Fin 4096) (j : Fin 64) :
    lay1 A v (ix3 b n j) = layer1 A b n j := by
  unfold lay1 layer1
  pointwise
  rw [Fin.sum_univ_add (a := 64) (b := 3) (fun x => (cols A v (ix3 b n x) : EReal) * A.W1 (ix2 x j))]
  exact congrArg (fun x : EReal => max (x + A.b1 (ix1 j)) 0) (congrArg₂ (· + ·)
    (Finset.sum_congr rfl fun k _ => congrArg (· * (A.W1 (ix2 (Fin.castAdd 3 k) j) : EReal)) (cols_feat A v b n k _))
    (Finset.sum_congr rfl fun k _ => congrArg (· * (A.W1 (ix2 (Fin.natAdd 64 k) j) : EReal)) (cols_pt A v b n k _)))

/-- The second layer at an index. -/
theorem lay2_at (h : FVec Ideal S2x4096x64 .f32) (hh : ∀ b n j, h (ix3 b n j) = layer1 A b n j)
    (b : Fin 2) (n : Fin 4096) (j : Fin 32) : lay2 A h (ix3 b n j) = layer2 A b n j := by
  unfold lay2 layer2
  pointwise [hh]

/-- The last layer at an index. -/
theorem lay3_at (h : FVec Ideal S2x4096x32 .f32) (hh : ∀ b n j, h (ix3 b n j) = layer2 A b n j)
    (b : Fin 2) (n : Fin 4096) : lay3 A h (ix3 b n 0) = logit A b n := by
  unfold lay3 logit
  pointwise [hh]

/-- The output at an index. -/
theorem outp_at (z : FVec Ideal S2x4096x1 .f32) (hz : ∀ b n, z (ix3 b n 0) = logit A b n)
    (b : Fin 2) (n : Fin 4096) : outp A z (ix2 b n) = score A b n := by
  unfold outp score few total
  pointwise [hz]

/-- The reference's result at an index is the boundary score. -/
theorem res_at (m : (ℓ : Loc nD τ sig) → Buf (Elt Ideal) ℓ) (c : Dev nD) (b : Fin 2) (n : Fin 4096) :
    Value.res_out0 m c (ix2 b n) = score (args m c) b n := by
  obtain ⟨v, hv⟩ := res_eq m c
  rw [hv]
  exact outp_at _ _ (lay3_at _ _ (lay2_at _ _ (lay1_at _ _))) b n

end Cert.ReferenceIdeal.Score

end
-- ==== Proof.Detect.Payload.lean ====
/-
  The kernel body at an index. The block of one batch holds two points in each column: the even point's 64 features in
  the first half of a row and the odd one's in the second, the coordinates and mask of both in eight rows, and all the
  weights in one slab. The stored block's row 0 is the even points' scores, row 1 the odd points'.
-/
module

public import proofs.«01_k».proof.Proof.Detect.Net
public import proofs.«01_k».proof.Proof.Gen.KernelIdeal.Frame
public import Idealize.ShloMosaic.Lib.Tactic.CleanTypes
public import Idealize.ShloMosaic.Lib.Tactic.IndexArith

@[expose] public section

set_option maxRecDepth 16384

noncomputable section

namespace Cert.KernelIdeal.Score

open Cert.KernelIdeal Cert.KernelIdeal.Gen
open Idealize.ShloMosaic Idealize.ShloMosaic.TcCoe Idealize.SL.Sem
open Cert.Detect

/-- The even point of column `h`. -/
def even (h : Fin 2048) : Fin 4096 := ⟨2 * h, by omega⟩

/-- The odd point of column `h`. -/
def odd (h : Fin 2048) : Fin 4096 := ⟨2 * h + 1, by omega⟩

/-- What the three blocks that the body reads hold, for batch `b` of the arguments `A`. -/
structure Blocks (A : Args) (b : Fin 2) (x0 : FVec Ideal S1x2048x128 .f32) (x1 : FVec Ideal S1x8x2048 .f32)
    (x2 : FVec Ideal S176x128 .f32) : Prop where
  /-- the even point's features -/
  fe : ∀ (h : Fin 2048) (k : Fin 64) hk, x0 (ix3 0 h ⟨k.1, hk⟩) = A.feats (ix3 b (even h) k)
  /-- the odd point's features -/
  fo : ∀ (h : Fin 2048) (k : Fin 64) hk, x0 (ix3 0 h ⟨64 + k.1, hk⟩) = A.feats (ix3 b (odd h) k)
  /-- the even point's coordinates -/
  pe : ∀ (h : Fin 2048) (k : Fin 3) hk, x1 (ix3 0 ⟨k.1, hk⟩ h) = A.pts (ix3 b (even h) k)
  /-- the odd point's coordinates -/
  po : ∀ (h : Fin 2048) (k : Fin 3) hk, x1 (ix3 0 ⟨4 + k.1, hk⟩ h) = A.pts (ix3 b (odd h) k)
  /-- the even point's mask -/
  me : ∀ h : Fin 2048, x1 (ix3 0 3 h) = A.mask (ix2 b (even h))
  /-- the odd point's mask -/
  mo : ∀ h : Fin 2048, x1 (ix3 0 7 h) = A.mask (ix2 b (odd h))
  /-- the first layer's weights for the features -/
  w1f : ∀ (k j : Fin 64) hk hj, x2 (ix2 ⟨k.1, hk⟩ ⟨j.1, hj⟩) = A.W1 (ix2 ⟨k.1, by omega⟩ j)
  /-- the first layer's weights for the coordinates -/
  w1p : ∀ (k : Fin 3) (j : Fin 64) hk hj, x2 (ix2 ⟨64 + k.1, hk⟩ ⟨j.1, hj⟩) = A.W1 (ix2 ⟨64 + k.1, by omega⟩ j)
  /-- the first layer's bias -/
  b1 : ∀ (j : Fin 64) hj, x2 (ix2 136 ⟨j.1, hj⟩) = A.b1 (ix1 j)
  /-- the second layer's weights -/
  w2 : ∀ (k : Fin 64) (j : Fin 32) hk hj, x2 (ix2 ⟨72 + k.1, hk⟩ ⟨j.1, hj⟩) = A.W2 (ix2 k j)
  /-- the second layer's bias -/
  b2 : ∀ (j : Fin 32) hj, x2 (ix2 144 ⟨j.1, hj⟩) = A.b2 (ix1 j)
  /-- the last layer's weights, as a row -/
  w3 : ∀ (k : Fin 32) hk, x2 (ix2 160 ⟨k.1, hk⟩) = A.W3 (ix2 k 0)
  /-- the last layer's bias -/
  b3 : x2 (ix2 152 0) = A.b3 (ix1 0)

/-- What the body stores, of the three blocks it reads. -/
def stored (x0 : FVec Ideal S1x2048x128 .f32) (x1 : FVec Ideal S1x8x2048 .f32) (x2 : FVec Ideal S176x128 .f32) :
    FVec Ideal S1x2x2048 .f32 :=
  k0_pay1 (k0_pay3 x1) (k0_pay6 x2) (k0_pay7 x2) (k0_pay8 x2) (k0_pay9 x2) (k0_pay10 x2) (k0_pay11 x0 x1 x2)
    (k0_pay12 x0 x2) (k0_pay13 x1 x2)

/-- A sum over the points is the sum over the even ones and the sum over the odd ones. -/
theorem sum_even_odd (f : Fin 4096 → EReal) : (∑ n, f n) = (∑ h, f (even h)) + ∑ h, f (odd h) := by
  rw [← Finset.sum_add_distrib, ← (finProdFinEquiv (m := 2048) (n := 2)).sum_comp f, Fintype.sum_prod_type]
  refine Finset.sum_congr rfl fun h _ => ?_
  rw [Fin.sum_univ_two]
  refine congrArg₂ (· + ·) (congrArg f (Fin.ext ?_)) (congrArg f (Fin.ext ?_))
  · exact Nat.zero_add _
  · exact Nat.add_comm _ _

/-- The sigmoid of a point's logit, with every product written weight first as the kernel takes it. -/
theorem sigmoid_eq (A : Args) (b : Fin 2) (n : Fin 4096) :
    Ideal.logistic ((∑ k : Fin 32, (A.W3 (ix2 k 0) : EReal) * max ((∑ i : Fin 64, (A.W2 (ix2 i k) : EReal) *
        max ((∑ q : Fin 64, (A.W1 (ix2 ⟨q.1, by omega⟩ i) : EReal) * A.feats (ix3 b n q))
          + (∑ q : Fin 3, (A.W1 (ix2 ⟨64 + q.1, by omega⟩ i) : EReal) * A.pts (ix3 b n q)) + A.b1 (ix1 i)) 0)
        + A.b2 (ix1 k)) 0) + A.b3 (ix1 0))
      = Ideal.div 1 (1 + Ideal.exp (-logit A b n)) := by
  unfold Ideal.logistic logit layer2 layer1
  simp only [mul_comm]

variable {A : Args} {b : Fin 2} {x0 : FVec Ideal S1x2048x128 .f32} {x1 : FVec Ideal S1x8x2048 .f32}
  {x2 : FVec Ideal S176x128 .f32} (hB : Blocks A b x0 x1 x2)
include hB

/-- The even half's sigmoid, at a column. -/
theorem pay11_at (h : Fin 2048) :
    k0_pay11 (F := Ideal) x0 x1 x2 (ix2 0 h) = Ideal.div 1 (1 + Ideal.exp (-logit A b (even h))) := by
  rw [← sigmoid_eq]
  unfold k0_pay11 k0_pay2 k0_pay3 k0_pay5 k0_pay6 k0_pay7 k0_pay8 k0_pay9 k0_pay10 k0_pay4
  pointwise
  simp only [hB.w1f, hB.w1p, hB.b1, hB.w2, hB.b2, hB.w3, hB.b3, hB.fe, hB.pe]

/-- The stored row of the even points. -/
theorem stored_even (h : Fin 2048) : stored x0 x1 x2 (ix3 0 0 h) = score A b (even h) := by
  have h11 := pay11_at hB h
  unfold stored
  generalize k0_pay11 (F := Ideal) x0 x1 x2 = v at h11 ⊢
  unfold k0_pay1 k0_pay3 score few
  pointwise
  rw [ite_apply]
  pointwise [h11, hB.me, hB.mo, total, sum_even_odd]
  simp only [Finset.univ_unique, Finset.sum_singleton]

/-- The stored row of the odd points. -/
theorem stored_odd (h : Fin 2048) : stored x0 x1 x2 (ix3 0 1 h) = score A b (odd h) := by
  unfold stored k0_pay1 k0_pay12 k0_pay13 k0_pay2 k0_pay3 k0_pay5 k0_pay6 k0_pay7 k0_pay8 k0_pay9 k0_pay10 k0_pay4 score few
  rw [← sigmoid_eq]
  pointwise
  rw [ite_apply]
  pointwise [hB.w1f, hB.w1p, hB.b1, hB.w2, hB.b2, hB.w3, hB.b3, hB.fo, hB.po, hB.me, hB.mo, total, sum_even_odd]
  simp only [Finset.univ_unique, Finset.sum_singleton]

end Cert.KernelIdeal.Score

end
-- ==== Proof.Detect.HostIn.lean ====
/-
  The three arrays that the kernel's host lines lay out before the region, at an index, in terms of the arguments:
  the features two points to a row, the coordinates and mask of two points in eight rows, and the slab of weights.
-/
module

public import proofs.«01_k».proof.Proof.Detect.Payload
public import Idealize.ShloMosaic.Lib.StableHlo.ReadAt
public import Idealize.ShloMosaic.Lib.Pipeline.ValueKit

@[expose] public section

set_option maxRecDepth 16384

noncomputable section

namespace Cert.KernelIdeal.Score

open Cert.KernelIdeal Cert.KernelIdeal.Gen
open Idealize.ShloMosaic Idealize.ShloMosaic.TcCoe Idealize.SL.Sem
open Cert.Detect

/-- The kernel's nine arguments on a device. -/
def args (m : (ℓ : Loc nD τ sig) → Buf (Elt Ideal) ℓ) (c : Dev nD) : Args where
  pts := m ((c.tc : Thread nD τ).loc main_arg0)
  feats := m ((c.tc : Thread nD τ).loc main_arg1)
  mask := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)

/-- The value the weights are padded with. -/
def zero : FVec Ideal S_ .f32 := sitofp .f32 (constantI S_ 32 0#32)

/-- The features with two points to a row. -/
def featPairs (A : Args) : FVec Ideal S2x2048x128 .f32 :=
  shapeCast S2x2048x128 A.feats shapeCasts_S2x4096x64_S2x2048x128

/-- The coordinates and mask of two points as eight rows. -/
def ptsMask (A : Args) : FVec Ideal S2x8x2048 .f32 :=
  transpose S2x8x2048 [0, 2, 1] (shapeCast S2x2048x8 (concatenate S2x4096x4 2 [⟨S2x4096x3, A.pts⟩,
      ⟨S2x4096x1, broadcastInDim S2x4096x1 ![0, 1] bcast_S2x4096_S2x4096x1_0_1 A.mask⟩]
      concatenates_S2x4096x3_S2x4096x1_S2x4096x4_d2) shapeCasts_S2x4096x4_S2x2048x8)
    transposes_S2x2048x8_S2x8x2048_0_2_1

/-- The first layer's weights padded to 72 by 128. -/
def padW1 (A : Args) : FVec Ideal S72x128 .f32 :=
  pad S72x128 ![0, 0] ![5, 64] ![0, 0] A.W1 zero pads_S67x64_S72x128_050_0640 h_S_

/-- The second layer's weights padded to 64 by 128. -/
def padW2 (A : Args) : FVec Ideal S64x128 .f32 :=
  pad S64x128 ![0, 0] ![0, 96] ![0, 0] A.W2 zero pads_S64x32_S64x128_000_0960 h_S_

/-- The first layer's bias, as a row, padded to 8 by 128. -/
def padb1 (A : Args) : FVec Ideal S8x128 .f32 :=
  pad S8x128 ![0, 0] ![7, 64] ![0, 0] (broadcastInDim S1x64 ![1] bcast_S64_S1x64_1 A.b1) zero pads_S1x64_S8x128_070_0640 h_S_

/-- The second layer's bias, as a row, padded to 8 by 128. -/
def padb2 (A : Args) : FVec Ideal S8x128 .f32 :=
  pad S8x128 ![0, 0] ![7, 96] ![0, 0] (broadcastInDim S1x32 ![1] bcast_S32_S1x32_1 A.b2) zero pads_S1x32_S8x128_070_0960 h_S_

/-- The last layer's bias, as a row, padded to 8 by 128. -/
def padb3 (A : Args) : FVec Ideal S8x128 .f32 :=
  pad S8x128 ![0, 0] ![7, 127] ![0, 0] (broadcastInDim S1x1 ![1] bcast_S1_S1x1_1 A.b3) zero pads_S1x1_S8x128_070_01270 h_S_

/-- The last layer's weights, as a row, padded to 16 by 128. -/
def padW3 (A : Args) : FVec Ideal S16x128 .f32 :=
  pad S16x128 ![0, 0] ![15, 96] ![0, 0] (transpose S1x32 [1, 0] A.W3 transposes_S32x1_S1x32_1_0) zero pads_S1x32_S16x128_0150_0960 h_S_

/-- The slab: the six padded pieces one under another. -/
def slab (A : Args) : FVec Ideal S176x128 .f32 :=
  concatenate S176x128 0 [⟨S72x128, padW1 A⟩, ⟨S64x128, padW2 A⟩, ⟨S8x128, padb1 A⟩, ⟨S8x128, padb2 A⟩,
    ⟨S8x128, padb3 A⟩, ⟨S16x128, padW3 A⟩]
    concatenates_S72x128_S64x128_S8x128_S8x128_S8x128_S16x128_S176x128_d0

section Lines

variable (m : (ℓ : Loc nD τ sig) → Buf (Elt Ideal) ℓ) (c : Dev nD)

/-- The memory of the device after every host line before the region but the last one. -/
def pre : Valuation τ sig (Elt Ideal) := StableHlo.after (List.flatten [hostOps0, hostOps0_1, hostOps0_2, hostOps0_3,
  hostOps0_4, hostOps0_5, hostOps0_6, hostOps0_7, hostOps0_8, hostOps0_9, hostOps0_10, hostOps0_11]) (fun b => m (c, b))

/-- The features reach the region two points to a row. -/
theorem V_feats : V m c main_v0 = featPairs (args m c) := by
  entry_read
  rfl

/-- The coordinates and mask reach the region as eight rows. -/
theorem V_ptsMask : V m c main_v4 = ptsMask (args m c) := by
  entry_read
  rfl

/-- What the line for the first layer's weights leaves. -/
theorem pre_W1 : pre m c (Proc.devRef .tc main_v5) = padW1 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- What the line for the second layer's weights leaves. -/
theorem pre_W2 : pre m c (Proc.devRef .tc main_v6) = padW2 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- What the line for the first layer's bias, as a row leaves. -/
theorem pre_b1 : pre m c (Proc.devRef .tc main_v8) = padb1 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- What the line for the second layer's bias, as a row leaves. -/
theorem pre_b2 : pre m c (Proc.devRef .tc main_v10) = padb2 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- What the line for the last layer's bias, as a row leaves. -/
theorem pre_b3 : pre m c (Proc.devRef .tc main_v12) = padb3 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- What the line for the last layer's weights, as a row leaves. -/
theorem pre_W3 : pre m c (Proc.devRef .tc main_v14) = padW3 (args m c) := by
  simp only [pre, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append,
    List.nil_append, StableHlo.TRef.binary, StableHlo.TRef.unary, StableHlo.TRef.toBuf, StableHlo.TRef.ofBuf, cast_eq]
  after_results
  rfl

/-- The slab reaches the region whole. -/
theorem V_slab : V m c main_v15 = slab (args m c) := by
  show StableHlo.after (List.flatten [hostOps0, hostOps0_1, hostOps0_2, hostOps0_3, hostOps0_4, hostOps0_5, hostOps0_6,
    hostOps0_7, hostOps0_8, hostOps0_9, hostOps0_10, hostOps0_11] ++ hostOps0_12) (fun b => m (c, b))
    (Proc.devRef .tc main_v15) = _
  rw [StableHlo.after_append]
  unfold slab
  rw [← pre_W1, ← pre_W2, ← pre_b1, ← pre_b2, ← pre_b3, ← pre_W3]
  change StableHlo.after hostOps0_12 (pre m c) _ = _
  generalize pre m c = W
  unfold hostOps0_12
  rw [StableHlo.after_cons, StableHlo.after_nil, StableHlo.nary_result]
  rfl

end Lines

section AtIndex

variable (A : Args) (b : Fin 2) (h : Fin 2048)

/-- The first half of a row is the even point's features. -/
theorem featPairs_even (k : Fin 64) (hk) : featPairs A (ix3 b h ⟨k.1, hk⟩) = A.feats (ix3 b (even h) k) := by
  unfold featPairs even
  pointwise
  refine congrArg₂ (fun n k => A.feats (ix3 b n k)) (Fin.ext ?_) (Fin.ext ?_)
  all_goals (simp only []; omega)

/-- The second half of a row is the odd point's features. -/
theorem featPairs_odd (k : Fin 64) (hk) : featPairs A (ix3 b h ⟨64 + k.1, hk⟩) = A.feats (ix3 b (odd h) k) := by
  unfold featPairs odd
  pointwise
  refine congrArg (fun n => A.feats (ix3 b n k)) (Fin.ext ?_)
  simp only []
  omega

/-- The first three rows are the even points' coordinates. -/
theorem ptsMask_even (k : Fin 3) (hk) : ptsMask A (ix3 b ⟨k.1, hk⟩ h) = A.pts (ix3 b (even h) k) := by
  unfold ptsMask even
  pointwise
  rw [dif_pos (by omega)]
  refine congrArg₂ (fun n k => A.pts (ix3 b n k)) (Fin.ext ?_) (Fin.ext ?_)
  all_goals (simp only []; omega)

/-- Rows four to six are the odd points' coordinates. -/
theorem ptsMask_odd (k : Fin 3) (hk) : ptsMask A (ix3 b ⟨4 + k.1, hk⟩ h) = A.pts (ix3 b (odd h) k) := by
  unfold ptsMask odd
  pointwise
  rw [dif_pos (by omega)]
  refine congrArg₂ (fun n k => A.pts (ix3 b n k)) (Fin.ext ?_) (Fin.ext ?_)
  all_goals (simp only []; omega)

/-- Row three is the even points' mask. -/
theorem ptsMask_maskEven : ptsMask A (ix3 b 3 h) = A.mask (ix2 b (even h)) := by
  unfold ptsMask even
  pointwise
  refine congrArg (fun n => A.mask (ix2 b n)) (Fin.ext ?_)
  simp only []
  omega

/-- Row seven is the odd points' mask. -/
theorem ptsMask_maskOdd : ptsMask A (ix3 b 7 h) = A.mask (ix2 b (odd h)) := by
  unfold ptsMask odd
  pointwise
  refine congrArg (fun n => A.mask (ix2 b n)) (Fin.ext ?_)
  simp only []
  omega

/-- The slab's first 64 rows are the first layer's weights for the features. -/
theorem slab_w1f (k j : Fin 64) (hk hj) : slab A (ix2 ⟨k.1, hk⟩ ⟨j.1, hj⟩) = A.W1 (ix2 ⟨k.1, by omega⟩ j) := by
  unfold slab padW1
  pointwise
  rw [dif_pos (by omega), dif_pos (by omega)]

/-- The slab's next three rows are the first layer's weights for the coordinates. -/
theorem slab_w1p (k : Fin 3) (j : Fin 64) (hk hj) :
    slab A (ix2 ⟨64 + k.1, hk⟩ ⟨j.1, hj⟩) = A.W1 (ix2 ⟨64 + k.1, by omega⟩ j) := by
  unfold slab padW1
  pointwise
  rw [dif_pos (by omega), dif_pos (by omega)]

/-- The slab's row 136 is the first layer's bias. -/
theorem slab_b1 (j : Fin 64) (hj) : slab A (ix2 136 ⟨j.1, hj⟩) = A.b1 (ix1 j) := by
  unfold slab padb1
  pointwise

/-- The slab's rows from 72 on are the second layer's weights. -/
theorem slab_w2 (k : Fin 64) (j : Fin 32) (hk hj) : slab A (ix2 ⟨72 + k.1, hk⟩ ⟨j.1, hj⟩) = A.W2 (ix2 k j) := by
  unfold slab padW2
  pointwise

/-- The slab's row 144 is the second layer's bias. -/
theorem slab_b2 (j : Fin 32) (hj) : slab A (ix2 144 ⟨j.1, hj⟩) = A.b2 (ix1 j) := by
  unfold slab padb2
  pointwise

/-- The slab's row 160 is the last layer's weights. -/
theorem slab_w3 (k : Fin 32) (hk) : slab A (ix2 160 ⟨k.1, hk⟩) = A.W3 (ix2 k 0) := by
  unfold slab padW3
  pointwise

/-- The slab's entry at row 152 is the last layer's bias. -/
theorem slab_b3 : slab A (ix2 152 0) = A.b3 (ix1 0) := by
  unfold slab padb3
  pointwise

end AtIndex

end Cert.KernelIdeal.Score

end
-- ==== Proof.Detect.Array.lean ====
/-
  The kernel's output: each grid point stores one batch's scores as a row of even points above a row of odd points, the
  two blocks make up the array, and the host lines after the region put the points back in order.
-/
module

public import proofs.«01_k».proof.Proof.Detect.HostIn

@[expose] public section

set_option maxRecDepth 16384

noncomputable section

namespace Cert.KernelIdeal.Score

open Cert.KernelIdeal Cert.KernelIdeal.Gen
open Idealize.ShloMosaic Idealize.ShloMosaic.TcCoe Idealize.SL.Sem
open Idealize.ShloMosaic.Pipeline (Dat)
open Cert.Detect

/-- The batch that a grid point works on. -/
def batch (t : Fin cfg0.N) : Fin 2 := ⟨t.1, t.2⟩

/-- The block a grid point stages: the batch's, or the whole slab. -/
theorem index_eq : ∀ t : Fin cfg0.N, win0_0.index t = ![(batch t).1, 0, 0] ∧ win0_1.index t = ![(batch t).1, 0, 0]
    ∧ win0_2.index t = ![0, 0] ∧ win0_3.index t = ![(batch t).1, 0, 0] :=
  (by decide +kernel : ∀ t : Fin grid0.N, _)

variable (m : (ℓ : Loc nD τ sig) → Buf (Elt Ideal) ℓ) (c : Dev nD)

/-- The staged features are the batch's. -/
theorem iblk_feats (t : Fin cfg0.N) (h : Fin 2048) (q : Fin 128) :
    iblk m c 0 t (ix3 0 h q) = featPairs (args m c) (ix3 (batch t) h q) := by
  rw [← V_feats]
  blk_simp [iblk]
  refine congrArg (V m c main_v0) ?_
  blk_ext [index_eq t]

/-- The staged coordinates and mask are the batch's. -/
theorem iblk_ptsMask (t : Fin cfg0.N) (r : Fin 8) (h : Fin 2048) :
    iblk m c 1 t (ix3 0 r h) = ptsMask (args m c) (ix3 (batch t) r h) := by
  rw [← V_ptsMask]
  blk_simp [iblk]
  refine congrArg (V m c main_v4) ?_
  blk_ext [index_eq t]

/-- The staged slab is the whole slab. -/
theorem iblk_slab (t : Fin cfg0.N) (r : Fin 176) (j : Fin 128) :
    iblk m c 2 t (ix2 r j) = slab (args m c) (ix2 r j) := by
  rw [← V_slab]
  blk_simp [iblk]
  refine congrArg (V m c main_v15) ?_
  blk_ext [index_eq t]

/-- At every grid point the staged blocks hold the batch's share of the arguments. -/
theorem blocks (t : Fin cfg0.N) : Blocks (args m c) (batch t) (iblk m c 0 t) (iblk m c 1 t) (iblk m c 2 t) where
  fe h k hk := (iblk_feats m c t h _).trans (featPairs_even _ _ h k hk)
  fo h k hk := (iblk_feats m c t h _).trans (featPairs_odd _ _ h k hk)
  pe h k hk := (iblk_ptsMask m c t _ h).trans (ptsMask_even _ _ h k hk)
  po h k hk := (iblk_ptsMask m c t _ h).trans (ptsMask_odd _ _ h k hk)
  me h := (iblk_ptsMask m c t _ h).trans (ptsMask_maskEven _ _ h)
  mo h := (iblk_ptsMask m c t _ h).trans (ptsMask_maskOdd _ _ h)
  w1f k j hk hj := (iblk_slab m c t _ _).trans (slab_w1f _ k j hk hj)
  w1p k j hk hj := (iblk_slab m c t _ _).trans (slab_w1p _ k j hk hj)
  b1 j hj := (iblk_slab m c t _ _).trans (slab_b1 _ j hj)
  w2 k j hk hj := (iblk_slab m c t _ _).trans (slab_w2 _ k j hk hj)
  b2 j hj := (iblk_slab m c t _ _).trans (slab_b2 _ j hj)
  w3 k hk := (iblk_slab m c t _ _).trans (slab_w3 _ k hk)
  b3 := (iblk_slab m c t _ _).trans (slab_b3 _)

/-- The array that the region writes: per batch, row `p` holds the scores of the points of parity `p`. -/
def rows (A : Args) : FVec Ideal S2x2x2048 .f32 := fun i =>
  score A (i 0) ⟨2 * (i 2).1 + (i 1).1, by
    have h1 : (i 1).1 < 2 := (i 1).2
    have h2 : (i 2).1 < 2048 := (i 2).2
    omega⟩

/-- A stored block at an index. -/
theorem stored_at {A : Args} {b : Fin 2} {x0 : FVec Ideal S1x2048x128 .f32} {x1 : FVec Ideal S1x8x2048 .f32}
    {x2 : FVec Ideal S176x128 .f32} (hB : Blocks A b x0 x1 x2) (p : Fin 2) (h : Fin 2048) :
    stored x0 x1 x2 (ix3 0 p h) = rows A (ix3 b p h) := by
  match p with
  | 0 => exact stored_even hB h
  | 1 => exact stored_odd hB h

/-- The region's array after the run. -/
theorem final : (dats m 0 c).arrAt 3 cfg0.N = rows (args m c) := by
  refine (dats m 0 c).arrAt_eq_of_covers 3 _ (by decide +kernel) fun t _ y => ?_
  blk_simp
  rw [after0_3]
  frame_out
  obtain ⟨z, p, h, rfl⟩ : ∃ (z : Fin 1) (p : Fin 2) (h : Fin 2048), y = ix3 z p h :=
    ⟨y 0, y 1, y 2, by funext a; fin_cases a <;> rfl⟩
  obtain rfl : z = 0 := Subsingleton.elim _ _
  refine (stored_at (blocks m c t) p h).trans (congrArg (rows (args m c)) ?_)
  blk_ext [index_eq t]

/-- The kernel's result: the region's array put back in the points' order. -/
theorem tail_eq : Pipeline.afterTail₀ cfgs (dats m) 0 (V0 m) [hostOps1] c main_v18
    = shapeCast S2x4096 (transpose S2x2048x2 [0, 2, 1] (rows (args m c)) transposes_S2x2x2048_S2x2048x2_0_2_1)
        shapeCasts_S2x2048x2_S2x4096 := by
  have h := Pipeline.withArrays_arr spec0 (by decide) c (V0 m c) (fun w => (dats m 0 c).arrAt w cfg0.N) 3
  rw [final m c] at h
  rw [← h]
  show StableHlo.after hostOps1 (Pipeline.withArrays spec0 c (V0 m c) fun w => (dats m 0 c).arrAt w cfg0.N)
    (Proc.devRef .tc main_v18) = _
  generalize Pipeline.withArrays spec0 c (V0 m c) (fun w => (dats m 0 c).arrAt w cfg0.N) = W
  after_results
  rfl

/-- The kernel's result at an index is the boundary score. -/
theorem tail_at (b : Fin 2) (n : Fin 4096) :
    Pipeline.afterTail₀ cfgs (dats m) 0 (V0 m) [hostOps1] c main_v18 (ix2 b n) = score (args m c) b n := by
  rw [tail_eq]
  pointwise
  refine congrArg (score (args m c) b) (Fin.ext ?_)
  show 2 * (n.1 / 2) + n.1 % 2 = n.1
  omega

/-- Every run at exact arithmetic ends with the result at what the host lines make of the region's array. -/
theorem run (g : Dev nD → PrngReg) : θ_run (defs (F := Ideal)) (onTc (τ := τ) (main (F := Ideal))) ⟨m, fun _ => 0, g⟩
    (fun r => ∀ c : Dev nD, r.2.mem ((c.tc : Thread nD τ).loc main_v18)
      = Pipeline.afterTail₀ cfgs (dats m) 0 (V0 m) [hostOps1] c main_v18) :=
  (θ_run _ _ _).mono (fun _ h c => (h c).2 main_v18 (by decide)) (run_main (F := Ideal) m g)

end Cert.KernelIdeal.Score

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Detect.RefValue
public import proofs.«01_k».proof.Proof.Detect.Array
public import Idealize.ShloMosaic.Adequacy
public import Idealize.ShloMosaic.Init

@[expose] public section

noncomputable section

namespace Cert.Proof

open Idealize.ShloMosaic Idealize.SL.Sem Cert.Kernel

/-- The reference runs, its arguments end unchanged, and it has no semaphore whose counter could be left above zero. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- From memories that agree on the arguments, the reference's result is the kernel's. -/
theorem results_eq (A B : Cert.Detect.Args) (hAB : A = B)
    (x y : FVec Ideal ⟨2, ![2, 4096]⟩ .f32) (hx : ∀ b n, x (ix2 b n) = Cert.Detect.score A b n)
    (hy : ∀ b n, y (ix2 b n) = Cert.Detect.score B b n) : x = y := by
  subst hAB
  funext i
  obtain ⟨b, n, rfl⟩ : ∃ (b : Fin 2) (n : Fin 4096), i = ix2 b n := ⟨i 0, i 1, by funext a; fin_cases a <;> rfl⟩
  rw [hx, hy]

/-- At exact arithmetic the kernel and the reference end with equal results. -/
theorem results : Cert.algebraic_KernelIdeal_ReferenceIdeal (hKernelIdeal := Cert.KernelIdeal.Gen.facts)
    (hReferenceIdeal := Cert.ReferenceIdeal.Gen.facts) := by
  intro m g m' g' _ hagree
  refine ⟨_, (θ_run _ _ _).mono (fun _ h c => ⟨h.1 c, h.2 c⟩)
      (θ_run_and (Cert.KernelIdeal.Score.run m g) (Cert.KernelIdeal.Gen.unchanged (F := Ideal) m g)),
    (θ_run _ _ _).mono (fun _ h c => ⟨(h c).1.trans ?_, (h c).2⟩) (Cert.ReferenceIdeal.Value.run (F := Ideal) m' g')⟩
  refine results_eq (Cert.ReferenceIdeal.Score.args m' c) (Cert.KernelIdeal.Score.args m c) ?_ _ _
    (Cert.ReferenceIdeal.Score.res_at m' c) (Cert.KernelIdeal.Score.tail_at m c)
  obtain ⟨h0, h1, h2, h3, h4, h5, h6, h7, h8⟩ := hagree c
  unfold Cert.ReferenceIdeal.Score.args Cert.KernelIdeal.Score.args
  congr 1

/-- Everything claimed. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, results⟩

end Cert.Proof

end
